-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_decided [hKernelIdeal : Cert.KernelIdeal.Facts] [hReferenceIdeal : Cert.ReferenceIdeal.Facts] [hOn_decided : Cert.On_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![16384]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v3) i = v0 c i)
          ∧ (∀ i : (⟨1, ![16384]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v4) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![16384]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v18) i = v0 c i)
          ∧ (∀ i : (⟨1, ![16384]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v17) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_decided : Cert.On_decided.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_decided (hKernelIdeal := hKernelIdeal) (hReferenceIdeal := hReferenceIdeal) (hOn_decided := hOn_decided)
-- ==== On_decided.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S64x8192 : Shape := ⟨2, ![64, 8192]⟩

class Facts : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S8192x64_S8192_d1 : S8192x64.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  transposes_S8192x64_S64x8192_1_0 : S8192x64.Transposes [1, 0] S64x8192
  bcast_S_S16384x8192 : S_.BroadcastsInDim S16384x8192 (![] : Fin 0 → Fin S16384x8192.rank)
  reducesTo_S16384x8192_S16384_d1 : S16384x8192.ReducesTo [1] S16384
  bcast_S_S16384 : S_.BroadcastsInDim S16384 (![] : Fin 0 → Fin S16384.rank)
  dot_S16384x64_S64x8192_S16384x8192_1_0_0_1_n_n_wf : DotDims.WF S16384x64 S64x8192 S16384x8192 [1] [0] [0] [1] [] []

variable [Facts]

def dot_S16384x64_S64x8192_S16384x8192_1_0_0_1_n_n : DotDims S16384x64 S64x8192 S16384x8192 where
  lhsContracting := [1]
  rhsContracting := [0]
  lhsNonContracting := [0]
  rhsNonContracting := [1]
  lhsBatch := []
  rhsBatch := []
  wf := dot_S16384x64_S64x8192_S16384x8192_1_0_0_1_n_n_wf
def fn_where {F : FTy → Type} [FloatOps F] (arg0 : IVec S16384x8192 1) (arg1 : FVec F S_ .f32) (arg2 : FVec F S_ .f32) : FVec F S16384x8192 .f32 :=
  let v0 : FVec F S16384x8192 .f32 := broadcastInDim S16384x8192 ![] bcast_S_S16384x8192 arg1
  let v1 : FVec F S16384x8192 .f32 := broadcastInDim S16384x8192 ![] bcast_S_S16384x8192 arg2
  let v2 : FVec F S16384x8192 .f32 := select arg0 v0 v1
  v2

def fn_part1 {F : FTy → Type} [FloatOps F] (main_v17 : FVec F S16384x8192 .f32) : IVec S16384 1 × IVec S16384 1 :=
  let main_cst_5 : FVec F S_ .f32 := constant S_ .f32 0x00000000#32
  let main_v18 : FVec F S16384 .f32 := (fun x v => Host.reduceAdd x v reducesTo_S16384x8192_S16384_d1 h_S_) main_v17 main_cst_5
  let main_cst_6 : FVec F S_ .f32 := constant S_ .f32 0x3F800000#32
  let main_v19 : FVec F S16384 .f32 := broadcastInDim S16384 ![] bcast_S_S16384 main_cst_6
  let main_v20 : IVec S16384 1 := cmpf .ole main_v18 main_v19
  let main_c : IVec S_ 1 := constantI S_ 1 1#1
  let main_v21 : IVec S16384 1 := broadcastInDim S16384 ![] bcast_S_S16384 main_c
  (main_v20, main_v21)

def fn {F : FTy → Type} [FloatOps F] (main_arg0 : FVec F S16384x64 .f32) (main_arg1 : FVec F S8192x64 .f32) : IVec S16384 1 × IVec S16384 1 :=
  let main_v0 : FVec F S16384x64 .f32 := mulf main_arg0 main_arg0
  let main_cst : FVec F S_ .f32 := constant S_ .f32 0x00000000#32
  let main_v1 : FVec F S16384 .f32 := (fun x v => Host.reduceAdd x v reducesTo_S16384x64_S16384_d1 h_S_) main_v0 main_cst
  let main_v2 : FVec F S16384x1 .f32 := broadcastInDim S16384x1 ![0] bcast_S16384_S16384x1_0 main_v1
  let main_v3 : FVec F S8192x64 .f32 := mulf main_arg1 main_arg1
  let main_cst_0 : FVec F S_ .f32 := constant S_ .f32 0x00000000#32
  let main_v4 : FVec F S8192 .f32 := (fun x v => Host.reduceAdd x v reducesTo_S8192x64_S8192_d1 h_S_) main_v3 main_cst_0
  let main_v5 : FVec F S1x8192 .f32 := broadcastInDim S1x8192 ![1] bcast_S8192_S1x8192_1 main_v4
  let main_v6 : FVec F S16384x8192 .f32 := broadcastInDim S16384x8192 ![0, 1] bcast_S16384x1_S16384x8192_0_1 main_v2
  let main_v7 : FVec F S16384x8192 .f32 := broadcastInDim S16384x8192 ![0, 1] bcast_S1x8192_S16384x8192_0_1 main_v5
  let main_v8 : FVec F S16384x8192 .f32 := addf main_v6 main_v7
  let main_v9 : FVec F S64x8192 .f32 := (transpose S64x8192 [1, 0] · transposes_S8192x64_S64x8192_1_0) main_arg1
  let main_v10 : FVec F S16384x8192 .f32 := (fun l r => Host.dotGeneral dot_S16384x64_S64x8192_S16384x8192_1_0_0_1_n_n none l r) main_arg0 main_v9
  let main_cst_1 : FVec F S_ .f32 := constant S_ .f32 0x40000000#32
  let main_v11 : FVec F S16384x8192 .f32 := broadcastInDim S16384x8192 ![] bcast_S_S16384x8192 main_cst_1
  let main_v12 : FVec F S16384x8192 .f32 := mulf main_v11 main_v10
  let main_v13 : FVec F S16384x8192 .f32 := subf main_v8 main_v12
  let main_cst_2 : FVec F S_ .f32 := constant S_ .f32 0x2B8CBCCC#32
  let main_v14 : FVec F S16384x8192 .f32 := broadcastInDim S16384x8192 ![] bcast_S_S16384x8192 main_cst_2
  let main_v15 : IVec S16384x8192 1 := cmpf .ole main_v13 main_v14
  let main_cst_3 : FVec F S_ .f32 := constant S_ .f32 0x3F800000#32
  let main_cst_4 : FVec F S_ .f32 := constant S_ .f32 0x00000000#32
  let main_v16 : FVec F S16384x8192 .f32 := fn_where (F := F) main_v15 main_cst_3 main_cst_4
  let main_v17 : FVec F S16384x8192 .f32 := id main_v16
  fn_part1 (F := F) main_v17
-- ==== Kernel.lean ====
abbrev S16384x64 : Shape := ⟨2, ![16384, 64]⟩
abbrev S8192x64 : Shape := ⟨2, ![8192, 64]⟩
abbrev S16384x1 : Shape := ⟨2, ![16384, 1]⟩
abbrev S1x8192 : Shape := ⟨2, ![1, 8192]⟩
abbrev S16384 : Shape := ⟨1, ![16384]⟩
abbrev S8192 : Shape := ⟨1, ![8192]⟩
abbrev S64x8192 : Shape := ⟨2, ![64, 8192]⟩
abbrev S4096x64 : Shape := ⟨2, ![4096, 64]⟩
abbrev S4096x1 : Shape := ⟨2, ![4096, 1]⟩
abbrev S64x512 : Shape := ⟨2, ![64, 512]⟩
abbrev S4096x512 : Shape := ⟨2, ![4096, 512]⟩
abbrev S1x128 : Shape := ⟨2, ![1, 128]⟩
abbrev S4096x128 : Shape := ⟨2, ![4096, 128]⟩
abbrev S4096 : Shape := ⟨1, ![4096]⟩

abbrev nBuf : Space → Nat
  | .hbm => 9
  | .vmem => 14
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S16384x1, .f32⟩
  | .hbm, ⟨3, _⟩ => ⟨S1x8192, .f32⟩
  | .hbm, ⟨4, _⟩ => ⟨S64x8192, .f32⟩
  | .hbm, ⟨5, _⟩ => ⟨S16384x1, .i32⟩
  | .hbm, ⟨6, _⟩ => ⟨S16384x1, .f32⟩
  | .hbm, ⟨7, _⟩ => ⟨S16384, .i32⟩
  | .hbm, ⟨8, _⟩ => ⟨S16384, .f32⟩
  | .local _ .vmem, ⟨0, _⟩ => ⟨S16384x64, .f32⟩
  | .local _ .vmem, ⟨1, _⟩ => ⟨S8192x64, .f32⟩
  | .local _ .vmem, ⟨2, _⟩ => ⟨S16384x1, .f32⟩
  | .local _ .vmem, ⟨3, _⟩ => ⟨S1x8192, .f32⟩
  | .local _ .vmem, ⟨4, _⟩ => ⟨S4096x64, .f32⟩
  | .local _ .vmem, ⟨5, _⟩ => ⟨S4096x64, .f32⟩
  | .local _ .vmem, ⟨6, _⟩ => ⟨S64x8192, .f32⟩
  | .local _ .vmem, ⟨7, _⟩ => ⟨S4096x1, .f32⟩
  | .local _ .vmem, ⟨8, _⟩ => ⟨S4096x1, .f32⟩
  | .local _ .vmem, ⟨9, _⟩ => ⟨S1x8192, .f32⟩
  | .local _ .vmem, ⟨10, _⟩ => ⟨S4096x1, .i32⟩
  | .local _ .vmem, ⟨11, _⟩ => ⟨S4096x1, .i32⟩
  | .local _ .vmem, ⟨12, _⟩ => ⟨S4096x1, .f32⟩
  | .local _ .vmem, ⟨13, _⟩ => ⟨S4096x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := .none

abbrev stage0_0 : Fin 1 → Memref sig .tc .vmem S16384x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S64x8192 : Shape := ⟨2, ![64, 8192]⟩

abbrev nBuf : Space → Nat
  | .hbm => 30
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S64x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S16384x8192, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384, .f32⟩
  | .hbm, ⟨25, _⟩ => ⟨S16384x8192, .i32⟩
  | .hbm, ⟨26, _⟩ => ⟨S_, .f32⟩
  | .hbm, ⟨27, _⟩ => ⟨S_, .i32⟩
  | .hbm, ⟨28, _⟩ => ⟨S16384, .f32⟩
  | .hbm, ⟨29, _⟩ => ⟨S16384, .i32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.KernelRun.lean ====
/- The idealized kernel's run with its two results at the last boundary's contents. The launch is set up as the generated frame
   certificate sets it up; what is read at the end are the two result arrays and the arguments. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel ends, from any memory, with the indices and the distances at the last boundary's contents and the arguments
    unchanged. -/
theorem run : θ_run defs (onTc (τ := τ) (main (F := F))) ⟨m, fun _ => 0, ρ⟩ fun r => ∀ c : Dev nD,
      r.2.mem ((c.tc : Thread nD τ).loc main_v3) = W4 m ρ c (Proc.devRef .tc main_v3)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v3 (by decide)), h c _ (mem_uc main_v4 (by decide)),
       (h c _ (mem_uc main_arg0 (by decide))).trans (W4_main_arg0 m ρ c),
       (h c _ (mem_uc main_arg1 (by decide))).trans (W4_main_arg1 m ρ c)⟩)

end Cert.KernelIdeal.Gen

end
-- ==== Proof.Slabs.lean ====
/- The kernel's column groups. The body of the second launch reads the 8192 centroids in 64 groups of 128: lane l of
   group c is centroid 128 * c + l. This module states a group's squared distances as a vector, the running minimum over
   the groups with the number of the group it came from, and that the body's own running values are these. -/
module

public import proofs.«01_k».proof.Proof.Gen.KernelIdeal.Frame

@[expose] public section

set_option maxRecDepth 16384

noncomputable section

namespace Cert.KernelIdeal.Gen

open Idealize.ShloMosaic

variable {F : FTy → Type} [FloatOps F]

/-- Any 128 neighbouring lanes of the row of squared norms are a slice of it. -/
theorem slices_norms (c : ℕ) : S1x8192.Slices ![0, 128 * (c % 64)] S1x128 := by
  refine ⟨rfl, fun a => ?_⟩
  fin_cases a
  · exact Nat.le_refl 1
  · change 128 * (c % 64) + 128 ≤ 8192
    omega

/-- Any 128 neighbouring lanes of a product block are a slice of it. -/
theorem slices_block (c : ℕ) : S4096x512.Slices ![0, 128 * (c % 4)] S4096x128 := by
  refine ⟨rfl, fun a => ?_⟩
  fin_cases a
  · exact Nat.le_refl 4096
  · change 128 * (c % 4) + 128 ≤ 512
    omega

/-- Any 512 neighbouring columns of the transposed centroids lie inside them. -/
theorem inb_columns (c : ℕ) (a : Fin S64x8192.rank) : (![0, 512 * (c / 4 % 16)] : Fin 2 → ℕ) a + S64x512.size a ≤ S64x8192.size a := by
  fin_cases a
  · exact Nat.le_refl 64
  · change 512 * (c / 4 % 16) + 512 ≤ 8192
    omega

/-- The squared distances of a block of rows to the centroids of group `c`, as the body computes them: the two squared
    norms' sum less the product of the doubled rows with the block of 512 centroids the group lies in. -/
def slab (x0 : Vec F S4096x64 .f32) (x1 : Vec F S64x8192 .f32) (x2 : Vec F S4096x1 .f32) (x3 : Vec F S1x8192 .f32) (c : ℕ) : FVec F S4096x128 .f32 :=
  subf (addf (broadcastTo S4096x128 (shapeCast S4096x1 (View.ld x2 r1_1) shapeCasts_S4096x1_S4096x1) broadcasts_S4096x1_S4096x128)
      (broadcastTo S4096x128 (extractStridedSlice S1x128 ![0, 128 * (c % 64)] (shapeCast S1x8192 (View.ld x3 r1_2) shapeCasts_S1x8192_S1x8192) (slices_norms c)) broadcasts_S1x128_S4096x128))
    (extractStridedSlice S4096x128 ![0, 128 * (c % 4)] (matmul dot_S4096x64_S64x512_S4096x512_1_0_0_1_n_n none (addf (View.ld x0 r1_0) (View.ld x0 r1_0))
      (shapeCast S64x512 (View.ld x1 (Rect.unit (s := S64x8192) ![0, 512 * (c / 4 % 16)] S64x512.size (inb_columns c))) shapeCasts_S64x512_S64x512)
      (constant S4096x512 .f32 0x00000000#32)) (slices_block c))

/-- The least of the groups `0` to `n` at every lane: a later group is taken where it is below what came before. -/
def low (d : ℕ → FVec F S4096x128 .f32) : ℕ → FVec F S4096x128 .f32
  | 0 => d 0
  | n + 1 => select (cmpf .olt (d (n + 1)) (low d n)) (d (n + 1)) (low d n)

/-- The number of the group the least was taken from. -/
def arg (d : ℕ → FVec F S4096x128 .f32) : ℕ → IVec S4096x128 32
  | 0 => broadcast S4096x128 0#32
  | n + 1 => select (cmpf .olt (d (n + 1)) (low d n)) (broadcast S4096x128 (BitVec.ofNat 32 (n + 1))) (arg d n)

variable (x0 : Vec F S4096x64 .f32) (x1 : Vec F S64x8192 .f32) (x2 : Vec F S4096x1 .f32) (x3 : Vec F S1x8192 .f32)

/-- One step of the running minimum. -/
theorem low_step {d : ℕ → FVec F S4096x128 .f32} {n : ℕ} {e V : FVec F S4096x128 .f32} (hV : V = low d n) (he : e = d (n + 1)) :
    select (cmpf .olt e V) e V = low d (n + 1) := by
  rw [hV, he]
  rfl

/-- One step of the group's number. -/
theorem arg_step {d : ℕ → FVec F S4096x128 .f32} {n : ℕ} {e V : FVec F S4096x128 .f32} {C : IVec S4096x128 32} (hC : C = arg d n)
    (hV : V = low d n) (he : e = d (n + 1)) : select (cmpf .olt e V) (broadcast S4096x128 (BitVec.ofNat 32 (n + 1))) C = arg d (n + 1) := by
  rw [hC, hV, he]
  rfl

/-- The least over all 64 groups at every lane, as the body's last selection leaves it. -/
def lowest : FVec F S4096x128 .f32 :=
  k1_pay238 (k1_pay242 x0 x1 x2 x3) (k1_pay243 x0 x1 x2 x3) (k1_pay278 x0 x1 x2 x3) (k1_pay279 x0 x1 x2 x3) (k1_pay280 x0 x1 x2 x3) (k1_pay281 x0 x1 x2 x3)

/-- It is the running minimum after the last group. -/
theorem lowest_eq : lowest x0 x1 x2 x3 = low (slab x0 x1 x2 x3) 63 := by
  iterate 63 refine low_step ?_ rfl
  rfl

/-- The block of distances the body leaves: each row's least over the lanes, clamped and rooted. -/
theorem out_distance : out1_5 x0 x1 x2 x3 = View.canon [⟨r1_1, k1_pay1 (shapeCast S4096x1
    (multiReduction .minimumf [1] S4096 (low (slab x0 x1 x2 x3) 63) 0x7F800000#32 reduces_S4096x128_S4096 (.inl rfl) rfl) shapeCasts_S4096_S4096x1)⟩] := by
  rw [← lowest_eq]
  rfl

/-- The block of indices the body leaves: each row's least, over the lanes that attain the row's least distance, of the
    centroid's number. -/
def picked (V : FVec F S4096x128 .f32) (C : IVec S4096x128 32) : IVec S4096x1 32 :=
  shapeCast S4096x1 (multiReductionI .minsi [1] S4096
    (select (cmpf .oeq V (broadcastTo S4096x128 (shapeCast S4096x1
        (multiReduction .minimumf [1] S4096 V 0x7F800000#32 reduces_S4096x128_S4096 (.inl rfl) rfl) shapeCasts_S4096_S4096x1) broadcasts_S4096x1_S4096x128))
      (addi (muli C (broadcast S4096x128 128#32)) (iota .tc S4096x128 32 [1] iota_S4096x128_d1_w32)) (broadcast S4096x128 2147483647#32))
    2147483647#32 reduces_S4096x128_S4096 rfl) shapeCasts_S4096_S4096x1

theorem picked_congr {V W : FVec F S4096x128 .f32} {C D : IVec S4096x128 32} (h : V = W) (h' : C = D) :
    (View.canon [⟨r1_1, picked V C⟩] : Vec F S4096x1 .i32) = View.canon [⟨r1_1, picked W D⟩] := by rw [h, h']

theorem out_index : out1_4 x0 x1 x2 x3 = View.canon [⟨r1_1, picked (low (slab x0 x1 x2 x3) 63) (arg (slab x0 x1 x2 x3) 63)⟩] := by
  refine picked_congr (lowest_eq x0 x1 x2 x3) ?_
  iterate 63 refine arg_step ?_ ?_ rfl
  · rfl
  all_goals
    repeat refine low_step ?_ rfl
    rfl

end Cert.KernelIdeal.Gen

end
-- ==== Proof.FirstMin.lean ====
/- The first index at which a finite family of extended reals is least, and the two ways in which the programs find it: a fold whose
   body keeps the lesser of two values, and a running minimum that is replaced only by something strictly less. -/
module

public import Idealize.ShloMosaic.PureOps.Ideal
public import Mathlib.Data.EReal.Operations
public import Mathlib.Data.Prod.Lex
public import Mathlib.Data.Finset.Fold

@[expose] public section

noncomputable section

namespace Cert.FirstMin

/-- `k` is the first index at which `f` is least. -/
def IsFirstMin {n : ℕ} (f : Fin n → EReal) (k : Fin n) : Prop := (∀ j, f k ≤ f j) ∧ ∀ j, j < k → f k < f j

/-- There is one such index only. -/
theorem IsFirstMin.unique {n : ℕ} {f : Fin n → EReal} {k k' : Fin n} (h : IsFirstMin f k) (h' : IsFirstMin f k') : k = k' := by
  rcases lt_trichotomy k k' with hlt | heq | hgt
  · exact absurd (h'.2 k hlt) (not_lt.2 (h.1 k'))
  · exact heq
  · exact absurd (h.2 k' hgt) (not_lt.2 (h'.1 k))

/-- What a monotone `φ` makes of the family has its first least index there too, if `φ` separates the least value from those before it. -/
theorem IsFirstMin.comp {n : ℕ} {f : Fin n → EReal} {k : Fin n} (h : IsFirstMin f k) {φ : EReal → EReal} (hφ : Monotone φ)
    (hs : ∀ j, j < k → φ (f k) < φ (f j)) : IsFirstMin (fun j => φ (f j)) k :=
  ⟨fun j => hφ (h.1 j), hs⟩

section Fold

variable {α ι K : Type*} [LinearOrder K]

/-- `op` returns one of its operands, the one with the lesser `key`. -/
def Picks (op : α → α → α) (key : α → K) : Prop := ∀ a b, (op a b = a ∧ key a ≤ key b) ∨ (op a b = b ∧ key b ≤ key a)

/-- A left fold of such a body over a list returns the initial value or an element, and no element's key is less. -/
theorem Picks.foldl {op : α → α → α} {key : α → K} (h : Picks op key) (l : List α) (init : α) :
    l.foldl op init ∈ init :: l ∧ ∀ x ∈ init :: l, key (l.foldl op init) ≤ key x := by
  induction l generalizing init with
  | nil => simp
  | cons a l ih =>
    obtain ⟨hm, hle⟩ := ih (op init a)
    have key_le := hle (op init a) (List.mem_cons_self ..)
    simp only [List.foldl_cons]
    rcases h init a with ⟨e, he⟩ | ⟨e, he⟩ <;> rw [e] at hm hle key_le ⊢
    · refine ⟨?_, ?_⟩
      · rcases List.mem_cons.1 hm with hm | hm
        · rw [hm]; exact List.mem_cons_self ..
        · exact List.mem_cons_of_mem _ (List.mem_cons_of_mem _ hm)
      · intro x hx
        rcases List.mem_cons.1 hx with rfl | hx
        · exact key_le
        · rcases List.mem_cons.1 hx with rfl | hx
          · exact key_le.trans he
          · exact hle x (List.mem_cons_of_mem _ hx)
    · refine ⟨List.mem_cons_of_mem _ hm, ?_⟩
      intro x hx
      rcases List.mem_cons.1 hx with rfl | hx
      · exact key_le.trans he
      · exact hle x hx

/-- The same of a fold over a finite set. -/
theorem Picks.fold {op : α → α → α} [Std.Commutative op] [Std.Associative op] {key : α → K} (h : Picks op key) (f : ι → α) (init : α)
    (s : Finset ι) :
    (s.fold op init f = init ∨ ∃ i ∈ s, s.fold op init f = f i)
      ∧ key (s.fold op init f) ≤ key init ∧ ∀ i ∈ s, key (s.fold op init f) ≤ key (f i) := by
  classical
  induction s using Finset.induction_on with
  | empty => simp
  | insert a s ha ih =>
    obtain ⟨hm, hi, hle⟩ := ih
    rw [Finset.fold_insert ha]
    rcases h (f a) (s.fold op init f) with ⟨e, he⟩ | ⟨e, he⟩ <;> rw [e]
    · refine ⟨Or.inr ⟨a, Finset.mem_insert_self .., rfl⟩, he.trans hi, fun i hi' => ?_⟩
      rcases Finset.mem_insert.1 hi' with rfl | hi'
      · exact le_rfl
      · exact he.trans (hle i hi')
    · refine ⟨?_, hi, fun i hi' => ?_⟩
      · rcases hm with hm | ⟨i, his, hm⟩
        · exact Or.inl hm
        · exact Or.inr ⟨i, Finset.mem_insert_of_mem his, hm⟩
      · rcases Finset.mem_insert.1 hi' with rfl | hi'
        · exact he
        · exact hle i hi'

/-- The minimum of two elements of a linear order is such a body. -/
theorem picks_min : Picks (min : K → K → K) id := fun a b => by
  rcases le_total a b with h | h
  · exact Or.inl ⟨min_eq_left h, h⟩
  · exact Or.inr ⟨min_eq_right h, h⟩

end Fold

/-- The fold of `min` from `⊤` is the value at the first least index. -/
theorem IsFirstMin.fold_min {n : ℕ} {f : Fin n → EReal} {k : Fin n} (h : IsFirstMin f k) :
    (Finset.univ : Finset (Fin n)).fold min ⊤ f = f k := by
  obtain ⟨hm, -, hle⟩ := picks_min.fold f ⊤ (Finset.univ : Finset (Fin n))
  refine le_antisymm (hle k (Finset.mem_univ k)) ?_
  rcases hm with hm | ⟨i, -, hm⟩
  · rw [hm]; exact le_top
  · rw [hm]; exact h.1 i

section Running

variable (g : ℕ → EReal)

/-- The running minimum after the values `0 … n`. -/
def runV : ℕ → EReal
  | 0 => g 0
  | n + 1 => if g (n + 1) < runV n then g (n + 1) else runV n

/-- The number of the value that the running minimum is. -/
def runC : ℕ → ℕ
  | 0 => 0
  | n + 1 => if g (n + 1) < runV g n then n + 1 else runC n

theorem runC_le (n : ℕ) : runC g n ≤ n := by
  induction n with
  | zero => exact le_rfl
  | succ n ih => rw [runC]; split_ifs <;> omega

theorem runV_eq (n : ℕ) : runV g n = g (runC g n) := by
  induction n with
  | zero => rfl
  | succ n ih => rw [runV, runC]; split_ifs <;> first | rfl | exact ih

theorem runV_le (n i : ℕ) (hi : i ≤ n) : runV g n ≤ g i := by
  induction n with
  | zero => rw [Nat.le_zero.1 hi]; exact le_rfl
  | succ n ih =>
    rw [runV]
    rcases Nat.lt_or_ge n i with h | h
    · obtain rfl : i = n + 1 := by omega
      split_ifs with hlt
      · exact le_rfl
      · exact not_lt.1 hlt
    · split_ifs with hlt
      · exact hlt.le.trans (ih h)
      · exact ih h

theorem runV_lt (n i : ℕ) (hi : i < runC g n) : runV g n < g i := by
  induction n with
  | zero => exact absurd hi (Nat.not_lt_zero _)
  | succ n ih =>
    rw [runC] at hi
    rw [runV]
    split_ifs at hi ⊢ with hlt
    · exact hlt.trans_le (runV_le g n i (by omega))
    · exact ih hi

end Running

section Words

theorem toInt_ofNat {n : ℕ} (h : n < 2 ^ 31) : (BitVec.ofNat 32 n).toInt = n := by
  rw [BitVec.toInt_eq_toNat_of_lt] <;> simp <;> omega

/-- Pairs of a value and its index as a word, of which the body keeps the one with the lesser value and of equal values the lesser index:
    the fold from the pair of `⊤` and 0 over every pair of the family, in whatever order, ends with the first least index. -/
theorem of_foldl {op : EReal × BitVec 32 → EReal × BitVec 32 → EReal × BitVec 32} (hop : Picks op fun p => toLex (p.1, p.2.toInt))
    {f : Fin 8192 → EReal} {L : List (EReal × BitVec 32)} (hL : ∀ p, p ∈ L ↔ ∃ k : Fin 8192, p = (f k, BitVec.ofNat 32 k.1)) :
    ∃ k : Fin 8192, IsFirstMin f k ∧ (L.foldl op (⊤, 0#32)).2 = BitVec.ofNat 32 k.1 := by
  obtain ⟨hm, hle⟩ := hop.foldl L (⊤, 0#32)
  generalize L.foldl op (⊤, 0#32) = r at hm hle ⊢
  obtain ⟨k, hk⟩ : ∃ k : Fin 8192, r = (f k, BitVec.ofNat 32 k.1) := by
    rcases List.mem_cons.1 hm with hm | hm
    · refine ⟨0, ?_⟩
      have h0 := hle _ (List.mem_cons_of_mem _ ((hL _).2 ⟨0, rfl⟩))
      rw [hm] at h0 ⊢
      simp only [Prod.Lex.le_iff, ofLex_toLex] at h0
      rcases h0 with h0 | ⟨h0, -⟩
      · exact absurd h0 not_top_lt
      · exact Prod.ext h0 rfl
    · exact (hL r).1 hm
  have hle' : ∀ j : Fin 8192, f k < f j ∨ (f k = f j ∧ k.1 ≤ j.1) := fun j => by
    have hj := hle _ (List.mem_cons_of_mem _ ((hL _).2 ⟨j, rfl⟩))
    rw [hk] at hj
    simp only [Prod.Lex.le_iff, ofLex_toLex] at hj
    rw [toInt_ofNat (by have := k.2; omega), toInt_ofNat (by have := j.2; omega)] at hj
    exact hj.imp id fun h => ⟨h.1, by exact_mod_cast h.2⟩
  refine ⟨k, ⟨fun j => ?_, fun j hj => ?_⟩, by rw [hk]⟩
  · exact (hle' j).elim le_of_lt fun h => h.1.le
  · exact (hle' j).elim id fun h => absurd hj (not_lt.2 h.2)

/-- 128 lanes, each with the running minimum over its own 64 values; the least of the minima; the least of the indices `128 · number + lane`
    of the lanes whose minimum that is, as words: it is the first index at which the whole family is least. `V` and `C` are what the lanes
    hold, `lmin` and `idx` the two results. -/
theorem lanes {d : Fin 8192 → EReal} {V : Fin 128 → EReal} {C : Fin 128 → ℕ} (g : Fin 128 → ℕ → EReal)
    (hg : ∀ (l : Fin 128) (c : ℕ) (h : 128 * c + l.1 < 8192), g l c = d ⟨128 * c + l.1, h⟩)
    (hV : ∀ l, V l = runV (g l) 63) (hC : ∀ l, C l = runC (g l) 63)
    {op : BitVec 32 → BitVec 32 → BitVec 32} [Std.Commutative op] [Std.Associative op] (hop : Picks op BitVec.toInt)
    {w : Fin 128 → BitVec 32} {big : BitVec 32} (hbig : 8192 ≤ big.toInt)
    (hw : ∀ l, w l = if V l = (Finset.univ : Finset (Fin 128)).fold min ⊤ V then BitVec.ofNat 32 (128 * C l + l.1) else big) :
    ∃ k : Fin 8192, IsFirstMin d k ∧ (Finset.univ : Finset (Fin 128)).fold min ⊤ V = d k
      ∧ (Finset.univ : Finset (Fin 128)).fold op big w = BitVec.ofNat 32 k.1 := by
  obtain ⟨hm, -, hle⟩ := picks_min.fold V ⊤ (Finset.univ : Finset (Fin 128))
  generalize (Finset.univ : Finset (Fin 128)).fold min ⊤ V = lmin at hm hle hw ⊢
  have hCle : ∀ l, C l ≤ 63 := fun l => hC l ▸ runC_le (g l) 63
  have hlt : ∀ l : Fin 128, 128 * C l + l.1 < 8192 := fun l => by have := hCle l; have := l.2; omega
  have hint : ∀ l : Fin 128, (BitVec.ofNat 32 (128 * C l + l.1)).toInt = ((128 * C l + l.1 : ℕ) : ℤ) := fun l =>
    toInt_ofNat (by have := hlt l; omega)
  -- some lane's minimum is the least
  obtain ⟨l0, h0⟩ : ∃ l, V l = lmin := by
    rcases hm with hm | ⟨i, -, hm⟩
    · exact ⟨0, le_antisymm (hm ▸ le_top) (hle 0 (Finset.mem_univ _))⟩
    · exact ⟨i, hm.symm⟩
  obtain ⟨hr, -, hrle⟩ := hop.fold w big (Finset.univ : Finset (Fin 128))
  generalize (Finset.univ : Finset (Fin 128)).fold op big w = r at hr hrle ⊢
  have hr0 : r.toInt < 8192 := by
    refine (hrle l0 (Finset.mem_univ _)).trans_lt ?_
    rw [hw, if_pos h0, hint]
    exact_mod_cast hlt l0
  -- the index returned is one of such a lane
  obtain ⟨l1, h1, hr1⟩ : ∃ l, V l = lmin ∧ r = BitVec.ofNat 32 (128 * C l + l.1) := by
    rcases hr with hr | ⟨l, -, hr⟩
    · rw [hr] at hr0; omega
    · rw [hw] at hr
      split_ifs at hr with h
      · exact ⟨l, h, hr⟩
      · rw [hr] at hr0; omega
  have hVd : ∀ l, V l = d ⟨128 * C l + l.1, hlt l⟩ := fun l => by
    rw [hV, runV_eq, ← hC]; exact hg l (C l) (hlt l)
  have hrle' : ∀ l, V l = lmin → 128 * C l1 + l1.1 ≤ 128 * C l + l.1 := fun l h => by
    have := hrle l (Finset.mem_univ _)
    rw [hw, if_pos h, hr1, hint, hint] at this
    exact_mod_cast this
  have split : ∀ j : Fin 8192, ∃ (l : Fin 128) (c : ℕ) (h : 128 * c + l.1 < 8192), j = ⟨128 * c + l.1, h⟩ := fun j =>
    ⟨⟨j.1 % 128, Nat.mod_lt _ (by norm_num)⟩, j.1 / 128, by have := j.2; simp only; omega, by apply Fin.ext; simp only; omega⟩
  have hleast : ∀ j, lmin ≤ d j := fun j => by
    obtain ⟨l, c, h, rfl⟩ := split j
    refine (hle l (Finset.mem_univ _)).trans ?_
    rw [← hg l c h, hV]
    exact runV_le _ _ _ (by omega)
  refine ⟨⟨128 * C l1 + l1.1, hlt l1⟩, ⟨fun j => ?_, fun j hj => ?_⟩, ?_, hr1⟩
  · rw [← hVd, h1]; exact hleast j
  · rw [← hVd, h1]
    refine lt_of_le_of_ne (hleast j) fun he => ?_
    obtain ⟨l, c, h, rfl⟩ := split j
    rw [← hg l c h] at he
    have hl : V l = lmin := le_antisymm (by rw [he, hV]; exact runV_le _ _ _ (by omega)) (hle l (Finset.mem_univ _))
    have hc : C l ≤ c := by
      by_contra hc
      have := runV_lt (g l) 63 c (by rw [← hC]; omega)
      rw [← hV, hl, he] at this
      exact lt_irrefl _ this
    have := hrle' l hl
    have hj' : 128 * c + l.1 < 128 * C l1 + l1.1 := hj
    omega
  · rw [← hVd, h1]

end Words

end Cert.FirstMin

end
-- ==== Proof.Extended.lean ====
/- Extended-real facts of the two programs: the factor 2 taken out of a sum of products, and the clamped root, which is monotone, and
   strictly so above the clamp. -/
module

public import Idealize.ShloMosaic.PureOps.Ideal

@[expose] public section

noncomputable section

namespace Cert.Extended

open Idealize.ShloMosaic

theorem add_self (x : EReal) : x + x = 2 * x := by
  induction x with
  | bot => rw [EReal.bot_add, mul_comm]; exact (EReal.bot_mul_coe_of_pos (x := 2) (by norm_num)).symm
  | coe r => rw [← EReal.coe_add]; exact (congrArg _ (two_mul r).symm).trans (EReal.coe_mul 2 r)
  | top => rw [EReal.top_add_top, mul_comm]; exact (EReal.top_mul_coe_of_pos (x := 2) (by norm_num)).symm

theorem two_mul_sum {ι : Type*} (s : Finset ι) (f : ι → EReal) : 2 * ∑ k ∈ s, f k = ∑ k ∈ s, 2 * f k := by
  classical
  induction s using Finset.induction_on with
  | empty => simp
  | insert a s ha ih =>
    rw [Finset.sum_insert ha, Finset.sum_insert ha, ← ih]
    exact EReal.left_distrib_of_nonneg_of_ne_top (by norm_num) (EReal.coe_ne_top 2) _ _

/-- The products with the doubled operand sum to twice the sum of the products. -/
theorem sum_double_mul {ι : Type*} (s : Finset ι) (x c : ι → EReal) : ∑ k ∈ s, (x k + x k) * c k = 2 * ∑ k ∈ s, x k * c k := by
  rw [two_mul_sum]
  exact Finset.sum_congr rfl fun k _ => by rw [add_self, mul_assoc]

/-- The bit pattern of the clamp denotes a positive number. -/
theorem clamp_pos : 0 < Ideal.ofBits .f32 0x2B8CBCCC#32 := by
  simp [Ideal.ofBits, Ideal.ieee, -EReal.coe_mul]

theorem ofBits_two : Ideal.ofBits .f32 0x40000000#32 = 2 := by
  rw [show (2 : EReal) = ((2 : ℝ) : EReal) from rfl]
  simp [Ideal.ofBits, Ideal.ieee, -EReal.coe_mul]; norm_num

theorem ofBits_top : Ideal.ofBits .f32 0x7F800000#32 = ⊤ := by
  simp [Ideal.ofBits, Ideal.ieee, -EReal.coe_mul]

theorem sqrt_lt {a b : EReal} (ha : 0 ≤ a) (h : a < b) : Ideal.sqrt a < Ideal.sqrt b := by
  induction a with
  | bot => exact absurd ha (by simp)
  | top => exact absurd h not_top_lt
  | coe r =>
    have hr : 0 ≤ r := EReal.coe_nonneg.1 ha
    rw [Ideal.sqrt_coe, if_neg (not_lt.2 hr)]
    induction b with
    | bot => exact absurd h not_lt_bot
    | top => rw [Ideal.sqrt_top]; exact EReal.coe_lt_top _
    | coe t =>
      have hrt : r < t := EReal.coe_lt_coe_iff.1 h
      rw [Ideal.sqrt_coe, if_neg (not_lt.2 (hr.trans hrt.le))]
      exact EReal.coe_lt_coe_iff.2 (Real.sqrt_lt_sqrt hr hrt)

/-- The root of a value clamped from below. -/
def root (x : EReal) : EReal := Ideal.sqrt (max x (Ideal.ofBits .f32 0x2B8CBCCC#32))

theorem root_monotone : Monotone root := fun a b h => by
  rcases (max_le_max_right (Ideal.ofBits .f32 0x2B8CBCCC#32) h).lt_or_eq with hlt | heq
  · exact (sqrt_lt (clamp_pos.le.trans (le_max_right _ _)) hlt).le
  · unfold root; rw [heq]

/-- Above the clamp the root separates what differs. -/
theorem root_lt {a b : EReal} (h : a < b) (hb : Ideal.ofBits .f32 0x2B8CBCCC#32 < b) : root a < root b :=
  sqrt_lt (clamp_pos.le.trans (le_max_right _ _)) (by rw [max_eq_left hb.le]; exact max_lt h hb)

/-- If the indicators of `p` sum to at most 1, then `p` holds of at most one index. -/
theorem not_both {ι : Type*} [Fintype ι] (p : ι → Prop) [DecidablePred p] (h : ∑ i, (if p i then (1 : EReal) else 0) ≤ 1) {i j : ι}
    (hij : i ≠ j) (hi : p i) : ¬ p j := by
  classical
  intro hj
  have h2 : ∑ k ∈ ({i, j} : Finset ι), (if p k then (1 : EReal) else 0) ≤ 1 :=
    (Finset.sum_le_sum_of_subset_of_nonneg (Finset.subset_univ _) fun k _ _ => by split_ifs <;> norm_num).trans h
  rw [Finset.sum_pair hij, if_pos hi, if_pos hj] at h2
  exact absurd h2 (by norm_num)

end Cert.Extended

end
-- ==== Proof.SlabValue.lean ====
/- The kernel's block at one row: the squared distances of a group of centroids, the running minimum of one lane, and what
   the body leaves in the two blocks it writes. -/
module

public import proofs.«01_k».proof.Proof.Slabs
public import proofs.«01_k».proof.Proof.FirstMin
public import proofs.«01_k».proof.Proof.Extended
public import Idealize.ShloMosaic.Lib.Pointwise
public import Idealize.ShloMosaic.Lib.WordCmp
public import Idealize.ShloMosaic.Lib.Pipeline.Value

@[expose] public section

set_option maxRecDepth 16384

noncomputable section

namespace Cert.KernelIdeal.Gen

open Idealize.ShloMosaic Cert.FirstMin Cert.Extended

variable (x0 : Vec Ideal S4096x64 .f32) (x1 : Vec Ideal S64x8192 .f32) (x2 : Vec Ideal S4096x1 .f32) (x3 : Vec Ideal S1x8192 .f32)

/-- A row's squared distance to a centroid, as the body computes it from its four inputs. -/
def sqdist (r : Fin 4096) (k : Fin 8192) : EReal :=
  (x2 (ix2 r 0) + x3 (ix2 0 k)) - ∑ a : Fin 64, (x0 (ix2 r a) + x0 (ix2 r a)) * x1 (ix2 a k)

/-- Lane `l` of group `c` is the squared distance to centroid `128 * c + l`. -/
theorem slab_apply (r : Fin 4096) (l : Fin 128) (c : ℕ) (h : 128 * c + l.1 < 8192) :
    slab x0 x1 x2 x3 c (ix2 r l) = sqdist x0 x1 x2 x3 r ⟨128 * c + l.1, h⟩ := by
  have e : (⟨128 * (c % 64) + l.1, by omega⟩ : Fin 8192) = ⟨128 * c + l.1, h⟩ := Fin.ext (by simp only; omega)
  have e' : (⟨512 * (c / 4 % 16) + (128 * (c % 4) + l.1), by omega⟩ : Fin 8192) = ⟨128 * c + l.1, h⟩ := Fin.ext (by simp only; omega)
  unfold slab sqdist
  pointwise
  rw [e]
  exact congrArg _ (Finset.sum_congr rfl fun a _ => congrArg (fun k => (x0 (ix2 r a) + x0 (ix2 r a)) * x1 (ix2 a k)) e')

/-- The running minimum and the group's number, lane by lane. -/
theorem low_apply (r : Fin 4096) (l : Fin 128) (d : ℕ → FVec Ideal S4096x128 .f32) (n : ℕ) :
    low d n (ix2 r l) = runV (fun c => d c (ix2 r l)) n ∧ arg d n (ix2 r l) = BitVec.ofNat 32 (runC (fun c => d c (ix2 r l)) n) := by
  induction n with
  | zero => exact ⟨rfl, rfl⟩
  | succ n ih =>
    simp only [low, arg]
    pointwise
    rw [ih.1, ih.2]
    exact ⟨rfl, (apply_ite (BitVec.ofNat 32) _ _ _).symm⟩

/-- The smaller of two signed words is one of them and not above either. -/
theorem picks_minsi : Picks (IntOp.minsi (w := 32)) BitVec.toInt := fun a b => by
  unfold IntOp.minsi
  rw [BitVec.slt_eq_decide]
  by_cases h : a.toInt < b.toInt
  · rw [if_pos (decide_eq_true h)]
    exact Or.inl ⟨rfl, h.le⟩
  · rw [if_neg (by simpa using h)]
    exact Or.inr ⟨rfl, not_lt.1 h⟩

/-- Offsets that are all zero. -/
theorem offsets_zero : (![0, 0] : Fin 2 → ℕ) = fun _ => 0 := funext fun a => by fin_cases a <;> rfl

/-- A row's index and distance, from the running minimum `V` and the group's number `C` over the lanes of the row: the number
    of the first centroid at the least of the squared distances `D`, and the clamped root of that. -/
theorem picked_apply (r : Fin 4096) {D : Fin 8192 → EReal} (g : Fin 128 → ℕ → EReal)
    (hg : ∀ (l : Fin 128) (c : ℕ) (h : 128 * c + l.1 < 8192), g l c = D ⟨128 * c + l.1, h⟩)
    (V : FVec Ideal S4096x128 .f32) (C : IVec S4096x128 32) (hV : ∀ l, V (ix2 r l) = runV (g l) 63)
    (hC : ∀ l, C (ix2 r l) = BitVec.ofNat 32 (runC (g l) 63)) :
    ∃ k, IsFirstMin D k ∧ picked V C (ix2 r 0) = BitVec.ofNat 32 k.1 ∧ k1_pay1 (shapeCast S4096x1
      (multiReduction .minimumf [1] S4096 V 0x7F800000#32 reduces_S4096x128_S4096 (.inl rfl) rfl) shapeCasts_S4096_S4096x1) (ix2 r 0) = root (D k) := by
  obtain ⟨k, hk, hm, hw⟩ := lanes g hg hV (fun _ => rfl) picks_minsi (big := 2147483647#32) (by decide) (fun _ => rfl)
  refine ⟨k, hk, ?_⟩
  simp only [k1_pay1, picked]
  pointwise
  simp only [ofBits_top, hC, WordCmp.muli_ofNat, WordCmp.addi_ofNat, Nat.mul_comm _ 128]
  exact ⟨hw, congrArg root hm⟩

/-- What the body leaves at a row: the number of the first centroid at the row's least squared distance, and the clamped
    root of that squared distance. -/
theorem out_apply (r : Fin 4096) : ∃ k, IsFirstMin (sqdist x0 x1 x2 x3 r) k
    ∧ out1_4 x0 x1 x2 x3 (ix2 r 0) = BitVec.ofNat 32 k.1 ∧ out1_5 x0 x1 x2 x3 (ix2 r 0) = root (sqdist x0 x1 x2 x3 r k) := by
  rw [out_index, out_distance, View.canon_unit_zero offsets_zero, View.canon_unit_zero offsets_zero]
  exact picked_apply r (fun l c => slab x0 x1 x2 x3 c (ix2 r l)) (fun l c h => slab_apply x0 x1 x2 x3 r l c h) _ _
    (fun l => (low_apply r l _ 63).1) fun l => (low_apply r l _ 63).2

end Cert.KernelIdeal.Gen

end
-- ==== Proof.Regions.lean ====
/- The two launches' output arrays: the squared norms the first leaves, and the indices and distances the second leaves. -/
module

public import proofs.«01_k».proof.Proof.SlabValue
public import Idealize.ShloMosaic.Lib.Pipeline.ValueKit

@[expose] public section

set_option maxRecDepth 16384

noncomputable section

namespace Cert.KernelIdeal.Gen

open Idealize.ShloMosaic Idealize.ShloMosaic.TcCoe Cert.FirstMin Cert.Extended

variable (V : (c : Dev nD) → (b : Ref sig .tc) → Buf (Elt Ideal) ((c : Thread nD τ).loc b)) (c : Dev nD)

/-- An index of an array of one column, by its row. -/
theorem one_column {n : ℕ} (y : (⟨2, ![n, 1]⟩ : Shape).Idx) : y = ix2 (y 0) 0 :=
  (eq_ix2 y).trans (congrArg (ix2 (y 0)) (Subsingleton.elim (α := Fin 1) _ _))

/-- An index of an array of one row, by its column. -/
theorem one_row {n : ℕ} (y : (⟨2, ![1, n]⟩ : Shape).Idx) : y = ix2 0 (y 1) :=
  (eq_ix2 y).trans (congrArg (ix2 · (y 1)) (Subsingleton.elim (α := Fin 1) _ _))

/-- A row's squared norm. -/
def rowNorm (x : FVec Ideal S16384x64 .f32) (i : Fin 16384) : EReal := ∑ a : Fin 64, x (ix2 i a) * x (ix2 i a)

/-- A centroid's squared norm. -/
def centroidNorm (y : FVec Ideal S8192x64 .f32) (k : Fin 8192) : EReal := ∑ a : Fin 64, y (ix2 k a) * y (ix2 k a)

/-- A row's squared distance to a centroid, from the arrays the second launch reads: the rows, the transposed centroids, and
    the two arrays of squared norms. -/
def rowDist (x : FVec Ideal S16384x64 .f32) (ct : FVec Ideal S64x8192 .f32) (x2 : FVec Ideal S16384x1 .f32) (c2 : FVec Ideal S1x8192 .f32)
    (i : Fin 16384) (k : Fin 8192) : EReal :=
  (x2 (ix2 i 0) + c2 (ix2 0 k)) - ∑ a : Fin 64, (x (ix2 i a) + x (ix2 i a)) * ct (ix2 a k)

/-- The first launch's windows are whole arrays: each block's index is 0 on both axes. -/
theorem index0 : ∀ t : Fin cfg0.N, (win0_0.index t (0 : Fin 2) = 0 ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The second launch's row windows are at block `t`; the centroids' windows are whole arrays. -/
theorem index1 : ∀ t : Fin cfg1.N, (win1_0.index t (0 : Fin 2) = t.val ∧ win1_0.index t (1 : Fin 2) = 0)
    ∧ (win1_1.index t (0 : Fin 2) = 0 ∧ win1_1.index t (1 : Fin 2) = 0) ∧ (win1_2.index t (0 : Fin 2) = t.val ∧ win1_2.index t (1 : Fin 2) = 0)
    ∧ (win1_3.index t (0 : Fin 2) = 0 ∧ win1_3.index t (1 : Fin 2) = 0) ∧ (win1_4.index t (0 : Fin 2) = t.val ∧ win1_4.index t (1 : Fin 2) = 0)
    ∧ (win1_5.index t (0 : Fin 2) = t.val ∧ win1_5.index t (1 : Fin 2) = 0) :=
  (by decide +kernel : ∀ t : Fin grid1.N, _)

/-- The first launch leaves each row's squared norm. -/
theorem norms_rows (i : Fin 16384) : (dat0 (F := Ideal) V c).arrAt 2 cfg0.N (ix2 i 0) = rowNorm (V c main_arg0) i := by
  refine congrFun ((dat0 (F := Ideal) V c).arrAt_eq_of_covers 2 (fun j => rowNorm (V c main_arg0) (j 0))
    (by decide +kernel) fun t hf y => ?_) (ix2 i 0)
  blk_simp
  rw [after0_2]
  frame_out
  obtain ⟨r, rfl⟩ : ∃ r : Fin 16384, y = (ix2 r 0 : S16384x1.Idx) := ⟨y 0, one_column y⟩
  simp only [k0_pay1, rowNorm]
  pointwise
  blk_point [iblk0, index0 t]

/-- and each centroid's. -/
theorem norms_centroids (k : Fin 8192) : (dat0 (F := Ideal) V c).arrAt 3 cfg0.N (ix2 0 k) = centroidNorm (V c main_arg1) k := by
  refine congrFun ((dat0 (F := Ideal) V c).arrAt_eq_of_covers 3 (fun j => centroidNorm (V c main_arg1) (j 1))
    (by decide +kernel) fun t hf y => ?_) (ix2 0 k)
  blk_simp
  rw [after0_3]
  frame_out
  obtain ⟨r, rfl⟩ : ∃ r : Fin 8192, y = (ix2 0 r : S1x8192.Idx) := ⟨y 1, one_row y⟩
  simp only [k0_pay2, centroidNorm]
  pointwise
  blk_point [iblk0, index0 t]

/-- The distances of the second launch's operands, as the region finds them. -/
abbrev dist1 (i : Fin 16384) : Fin 8192 → EReal := rowDist (V c main_arg0) (V c main_v1) (V c main_v0_0) (V c main_v0_1) i

/-- A block's row `r` is the array's row `i` when the block is block `t` and `i = 4096 * t + r`. -/
theorem block_dist (t : Fin cfg1.N) (r : Fin 4096) (i : Fin 16384) (hi : i.val = t.val * 4096 + r.val) :
    sqdist (iblk1 V c 0 t) (iblk1 V c 1 t) (iblk1 V c 2 t) (iblk1 V c 3 t) r = dist1 V c i := by
  funext k
  unfold sqdist dist1 rowDist
  blk_point [iblk1, index1 t]

/-- The second launch leaves, at each row, the number of the first centroid at the least squared distance, -/
theorem indices (i : Fin 16384) : ∃ k, IsFirstMin (dist1 V c i) k ∧ (dat1 (F := Ideal) V c).arrAt 4 cfg1.N (ix2 i 0) = BitVec.ofNat 32 k.1 := by
  refine (dat1 (F := Ideal) V c).arrAt_forall_of_covers 4 (fun i v => ∃ k, IsFirstMin (dist1 V c (i 0)) k ∧ v = BitVec.ofNat 32 k.1)
    (by decide +kernel) (fun t hf y => ?_) (ix2 i 0)
  obtain ⟨r, rfl⟩ : ∃ r : Fin 4096, y = (ix2 r 0 : S4096x1.Idx) := ⟨y 0, one_column y⟩
  obtain ⟨k, hk, h, -⟩ := out_apply (iblk1 V c 0 t) (iblk1 V c 1 t) (iblk1 V c 2 t) (iblk1 V c 3 t) r
  rw [block_dist V c t r (((cfg1.win 4).blk t).view.emb (ix2 r 0 : S4096x1.Idx) 0) (by blk_simp [index1 t])] at hk
  refine ⟨k, hk, ?_⟩
  blk_simp
  rw [after1_4]
  exact h

/-- and the clamped root of that squared distance. -/
theorem distances (i : Fin 16384) : ∃ k, IsFirstMin (dist1 V c i) k ∧ (dat1 (F := Ideal) V c).arrAt 5 cfg1.N (ix2 i 0) = root (dist1 V c i k) := by
  refine (dat1 (F := Ideal) V c).arrAt_forall_of_covers 5 (fun i v => ∃ k, IsFirstMin (dist1 V c (i 0)) k ∧ v = root (dist1 V c (i 0) k))
    (by decide +kernel) (fun t hf y => ?_) (ix2 i 0)
  obtain ⟨r, rfl⟩ : ∃ r : Fin 4096, y = (ix2 r 0 : S4096x1.Idx) := ⟨y 0, one_column y⟩
  obtain ⟨k, hk, -, h⟩ := out_apply (iblk1 V c 0 t) (iblk1 V c 1 t) (iblk1 V c 2 t) (iblk1 V c 3 t) r
  rw [block_dist V c t r (((cfg1.win 5).blk t).view.emb (ix2 r 0 : S4096x1.Idx) 0) (by blk_simp [index1 t])] at hk h
  refine ⟨k, hk, ?_⟩
  blk_simp
  rw [after1_5]
  exact h

end Cert.KernelIdeal.Gen

end
-- ==== Proof.SquaredDistance.lean ====
/- What both programs are compared through: the squared distance of a row to a centroid as an extended real. -/
module

public import Idealize.ShloMosaic.Lib.Pointwise

@[expose] public section

noncomputable section

namespace Cert.Spec

open Idealize.ShloMosaic

/-- `|x_i|² + |y_k|² - 2 x_i·y_k`, of row `i` of the states and row `k` of the centroids. -/
def sqd (x : FVec Ideal ⟨2, ![16384, 64]⟩ .f32) (y : FVec Ideal ⟨2, ![8192, 64]⟩ .f32) (i : Fin 16384) (k : Fin 8192) : EReal :=
  (∑ a : Fin 64, x (ix2 i a) * x (ix2 i a) + ∑ a : Fin 64, y (ix2 k a) * y (ix2 k a)) - 2 * ∑ a : Fin 64, x (ix2 i a) * y (ix2 k a)

end Cert.Spec

end
-- ==== Proof.KernelValue.lean ====
/- The idealized kernel's results, row by row: the index of the first centroid at the row's least squared distance, and the
   clamped root of that squared distance. -/
module

public import proofs.«01_k».proof.Proof.Regions
public import proofs.«01_k».proof.Proof.SquaredDistance
public import proofs.«01_k».proof.Proof.Extended
public import Idealize.ShloMosaic.Lib.StableHlo.Run

@[expose] public section

set_option maxRecDepth 16384

noncomputable section

namespace Cert.KernelIdeal.Gen

open Idealize.ShloMosaic Idealize.ShloMosaic.TcCoe Cert.FirstMin Cert.Extended Cert.Spec

variable (m : (ℓ : Loc nD τ sig) → Buf (Elt Ideal) ℓ) (ρ : Dev nD → PrngReg) (c : Dev nD)

/-- The second launch finds the rows as launched, -/
theorem entry_rows : V2 m ρ c main_arg0 = m ((c.tc : Thread nD τ).loc main_arg0) := W2_args m ρ c main_arg0 (by decide)

/-- the centroids transposed, -/
theorem entry_centroids (a : Fin 64) (k : Fin 8192) :
    (V2 m ρ c main_v1 : FVec Ideal S64x8192 .f32) (ix2 a k) = (m ((c.tc : Thread nD τ).loc main_arg1) : FVec Ideal S8192x64 .f32) (ix2 k a) := by
  have h : (V2 m ρ c main_v1 : FVec Ideal S64x8192 .f32) = transpose S64x8192 [1, 0] (W1 m ρ c (Proc.devRef .tc main_arg1) : FVec Ideal S8192x64 .f32) transposes_S8192x64_S64x8192_1_0 := by
    show StableHlo.after hostOps1 (W1 m ρ c) (Proc.devRef .tc main_v1) = _
    after_results
  rw [h, W1_args m ρ c main_arg1 (by decide)]
  pointwise

/-- the rows' squared norms, -/
theorem entry_rowNorm (i : Fin 16384) :
    (V2 m ρ c main_v0_0 : FVec Ideal S16384x1 .f32) (ix2 i 0) = rowNorm (m ((c.tc : Thread nD τ).loc main_arg0)) i := by
  have h : V2 m ρ c main_v0_0 = (dat0 (V0 m ρ) c).arrAt 2 cfg0.N := (W2_of m ρ c main_v0_0 (by decide)).trans (W1_arr m ρ c 2)
  rw [h]
  exact norms_rows (V0 m ρ) c i

/-- and the centroids' squared norms. -/
theorem entry_centroidNorm (k : Fin 8192) :
    (V2 m ρ c main_v0_1 : FVec Ideal S1x8192 .f32) (ix2 0 k) = centroidNorm (m ((c.tc : Thread nD τ).loc main_arg1)) k := by
  have h : V2 m ρ c main_v0_1 = (dat0 (V0 m ρ) c).arrAt 3 cfg0.N := (W2_of m ρ c main_v0_1 (by decide)).trans (W1_arr m ρ c 3)
  rw [h]
  exact norms_centroids (V0 m ρ) c k

/-- So its squared distances are the problem's. -/
theorem dist_eq (i : Fin 16384) :
    dist1 (V2 m ρ) c i = sqd (m ((c.tc : Thread nD τ).loc main_arg0)) (m ((c.tc : Thread nD τ).loc main_arg1)) i := by
  funext k
  unfold dist1 rowDist
  rw [entry_rowNorm, entry_centroidNorm, entry_rows]
  refine congrArg (rowNorm _ i + centroidNorm _ k - ·) ((Finset.sum_congr rfl fun a _ => ?_).trans (sum_double_mul _ _ _))
  exact congrArg (_ * ·) (entry_centroids m ρ c a k)

/-- The index of a row: the first centroid at the least squared distance. -/
theorem index_apply (i : Fin 16384) : ∃ k, IsFirstMin (sqd (m ((c.tc : Thread nD τ).loc main_arg0)) (m ((c.tc : Thread nD τ).loc main_arg1)) i) k
    ∧ (W4 m ρ c (Proc.devRef .tc main_v3) : IVec S16384 32) (ix1 i) = BitVec.ofNat 32 k.1 := by
  obtain ⟨k, hk, h⟩ := indices (V2 m ρ) c i
  rw [dist_eq] at hk
  refine ⟨k, hk, Eq.trans ?_ h⟩
  have e : (W4 m ρ c (Proc.devRef .tc main_v3) : IVec S16384 32)
      = shapeCast S16384 (W3 m ρ c (Proc.devRef .tc main_v2_0) : IVec S16384x1 32) shapeCasts_S16384x1_S16384 := by
    show StableHlo.after hostOps2 (W3 m ρ c) (Proc.devRef .tc main_v3) = _
    after_results
    rfl
  rw [e]
  pointwise
  exact congrFun (W3_arr m ρ c 4) _

/-- The distance of a row: the clamped root of the least squared distance. -/
theorem distance_apply (i : Fin 16384) : ∃ k, IsFirstMin (sqd (m ((c.tc : Thread nD τ).loc main_arg0)) (m ((c.tc : Thread nD τ).loc main_arg1)) i) k
    ∧ (W4 m ρ c (Proc.devRef .tc main_v4) : FVec Ideal S16384 .f32) (ix1 i)
      = root (sqd (m ((c.tc : Thread nD τ).loc main_arg0)) (m ((c.tc : Thread nD τ).loc main_arg1)) i k) := by
  obtain ⟨k, hk, h⟩ := distances (V2 m ρ) c i
  rw [dist_eq] at hk h
  refine ⟨k, hk, Eq.trans ?_ h⟩
  have e : (W4 m ρ c (Proc.devRef .tc main_v4) : FVec Ideal S16384 .f32)
      = shapeCast S16384 (W3 m ρ c (Proc.devRef .tc main_v2_1) : FVec Ideal S16384x1 .f32) shapeCasts_S16384x1_S16384 := by
    show StableHlo.after hostOps2 (W3 m ρ c) (Proc.devRef .tc main_v4) = _
    after_results
    rfl
  rw [e]
  pointwise
  exact congrFun (W3_arr m ρ c 5) _

end Cert.KernelIdeal.Gen

end
-- ==== Proof.Reference.lean ====
/- The reference's run: what its two results hold once @main has ended, as functions of the two arguments. -/
module

public import proofs.«01_k».proof.Proof.Gen.ReferenceIdeal
public import Idealize.ShloMosaic.Lib.StableHlo.Run
public import Idealize.ShloMosaic.Adequacy
public import Idealize.ShloMosaic.Init

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The squared distances `|x|² + |c|² - 2 x·c` of every row to every centroid, as the reference computes them. -/
def sqDist (x : FVec F S16384x64 .f32) (y : FVec F S8192x64 .f32) : FVec F S16384x8192 .f32 :=
  subf
    (addf
      (broadcastInDim S16384x8192 ![0, 1] bcast_S16384x1_S16384x8192_0_1 (broadcastInDim S16384x1 ![0] bcast_S16384_S16384x1_0
        (Host.reduceAdd (mulf x x) (constant S_ .f32 0x00000000#32) reducesTo_S16384x64_S16384_d1 h_S_)))
      (broadcastInDim S16384x8192 ![0, 1] bcast_S1x8192_S16384x8192_0_1 (broadcastInDim S1x8192 ![1] bcast_S8192_S1x8192_1
        (Host.reduceAdd (mulf y y) (constant S_ .f32 0x00000000#32) reducesTo_S8192x64_S8192_d1 h_S_))))
    (mulf (broadcastInDim S16384x8192 ![] bcast_S_S16384x8192 (constant S_ .f32 0x40000000#32))
      (Host.dotGeneral dot_S16384x64_S64x8192_S16384x8192_1_0_0_1_n_n none x (transpose S64x8192 [1, 0] y transposes_S8192x64_S64x8192_1_0)))

/-- The distances: the root of the squared distance, which is clamped from below. -/
def distance (x : FVec F S16384x64 .f32) (y : FVec F S8192x64 .f32) : FVec F S16384x8192 .f32 :=
  Host.sqrt (maximumf (sqDist x y) (broadcastInDim S16384x8192 ![] bcast_S_S16384x8192 (constant S_ .f32 0x2B8CBCCC#32)))

/-- The least distance of each row. -/
def least (x : FVec F S16384x64 .f32) (y : FVec F S8192x64 .f32) : FVec F S16384 .f32 :=
  Host.reduce FloatOps.minimumf (distance x y) (constant S_ .f32 0x7F800000#32) reducesTo_S16384x8192_S16384_d1 h_S_

/-- The number of the centroid at which each row's distance is least. -/
def nearest (x : FVec F S16384x64 .f32) (y : FVec F S8192x64 .f32) : IVec S16384 32 := fun j =>
  (Host.argReduce (φ := .f32) reducer_argmin_f32_i32 (distance x y) (iotaInDim S16384x8192 32 1) (constant S_ .f32 0x7F800000#32)
    (constantI S_ 32 0#32) reducesTo_S16384x8192_S16384_d1 h_S_ j).2

/-- @main's operations, in order; the last five are those of the outlined `argmin`. -/
abbrev ops : List (HloOp τ sig (Elt F)) :=
  [ binary main_arg0 main_arg0 main_v0 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S8192x64, .f32⟩ : BufTy).Contents (Elt F) → (⟨S8192x64, .f32⟩ : BufTy).Contents (Elt F) → (⟨S8192x64, .f32⟩ : BufTy).Contents (Elt F)),
    nullary main_cst_0 (constant S_ .f32 0x00000000#32),
    binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v4 main_v5 (broadcastInDim S1x8192 ![1] bcast_S8192_S1x8192_1 : (⟨S8192, .f32⟩ : BufTy).Contents (Elt F) → (⟨S1x8192, .f32⟩ : BufTy).Contents (Elt F)),
    unary main_v2 main_v6 (broadcastInDim S16384x8192 ![0, 1] bcast_S16384x1_S16384x8192_0_1 : (⟨S16384x1, .f32⟩ : BufTy).Contents (Elt F) → (⟨S16384x8192, .f32⟩ : BufTy).Contents (Elt F)),
    unary main_v5 main_v7 (broadcastInDim S16384x8192 ![0, 1] bcast_S1x8192_S16384x8192_0_1 : (⟨S1x8192, .f32⟩ : BufTy).Contents (Elt F) → (⟨S16384x8192, .f32⟩ : BufTy).Contents (Elt F)),
    binary main_v6 main_v7 main_v8 (addf : (⟨S16384x8192, .f32⟩ : BufTy).Contents (Elt F) → (⟨S16384x8192, .f32⟩ : BufTy).Contents (Elt F) → (⟨S16384x8192, .f32⟩ : BufTy).Contents (Elt F)),
    unary main_arg1 main_v9 ((transpose S64x8192 [1, 0] · transposes_S8192x64_S64x8192_1_0) : (⟨S8192x64, .f32⟩ : BufTy).Contents (Elt F) → (⟨S64x8192, .f32⟩ : BufTy).Contents (Elt F)),
    binary main_arg0 main_v9 main_v10 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
    nullary main_cst_1 (constant S_ .f32 0x40000000#32),
    unary main_cst_1 main_v11 (broadcastInDim S16384x8192 ![] bcast_S_S16384x8192 : (⟨S_, .f32⟩ : BufTy).Contents (Elt F) → (⟨S16384x8192, .f32⟩ : BufTy).Contents (Elt F)),
    binary main_v11 main_v10 main_v12 (mulf : (⟨S16384x8192, .f32⟩ : BufTy).Contents (Elt F) → (⟨S16384x8192, .f32⟩ : BufTy).Contents (Elt F) → (⟨S16384x8192, .f32⟩ : BufTy).Contents (Elt F)),
    binary main_v8 main_v12 main_v13 (subf : (⟨S16384x8192, .f32⟩ : BufTy).Contents (Elt F) → (⟨S16384x8192, .f32⟩ : BufTy).Contents (Elt F) → (⟨S16384x8192, .f32⟩ : BufTy).Contents (Elt F)),
    nullary main_cst_2 (constant S_ .f32 0x2B8CBCCC#32),
    unary main_cst_2 main_v14 (broadcastInDim S16384x8192 ![] bcast_S_S16384x8192 : (⟨S_, .f32⟩ : BufTy).Contents (Elt F) → (⟨S16384x8192, .f32⟩ : BufTy).Contents (Elt F)),
    binary main_v13 main_v14 main_v15 (maximumf : (⟨S16384x8192, .f32⟩ : BufTy).Contents (Elt F) → (⟨S16384x8192, .f32⟩ : BufTy).Contents (Elt F) → (⟨S16384x8192, .f32⟩ : BufTy).Contents (Elt F)),
    unary main_v15 main_v16 (Host.sqrt : (⟨S16384x8192, .f32⟩ : BufTy).Contents (Elt F) → (⟨S16384x8192, .f32⟩ : BufTy).Contents (Elt F)),
    nullary main_cst_3 (constant S_ .f32 0x7F800000#32),
    binary main_v16 main_cst_3 main_v17 ((fun x v => Host.reduce FloatOps.minimumf x v reducesTo_S16384x8192_S16384_d1 h_S_) : (⟨S16384x8192, .f32⟩ : BufTy).Contents (Elt F) → (⟨S_, .f32⟩ : BufTy).Contents (Elt F) → (⟨S16384, .f32⟩ : BufTy).Contents (Elt F)),
    nullary main_call0_v0 (iotaInDim S16384x8192 32 1),
    nullary main_call0_cst (constant S_ .f32 0x7F800000#32),
    nullary main_call0_c (constantI S_ 32 0#32),
    quaternary main_v16 main_call0_v0 main_call0_cst main_call0_c main_call0_v1_0 (fun x y u v j => (Host.argReduce (φ := .f32) reducer_argmin_f32_i32 x y u v reducesTo_S16384x8192_S16384_d1 h_S_ j).1),
    quaternary main_v16 main_call0_v0 main_call0_cst main_call0_c main_v18 (fun x y u v j => (Host.argReduce (φ := .f32) reducer_argmin_f32_i32 x y u v reducesTo_S16384x8192_S16384_d1 h_S_ j).2) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- Every operation reads and writes buffers of the device's own. -/
theorem ops_sub : (ops : List (HloOp τ sig (Elt F))).Forall fun op => op.bufs ⊆ tcRefs τ sig :=
  ⟨binary_bufs_sub .., nullary_bufs_sub .., binary_bufs_sub .., unary_bufs_sub .., binary_bufs_sub ..,
    nullary_bufs_sub .., binary_bufs_sub .., unary_bufs_sub .., unary_bufs_sub .., unary_bufs_sub ..,
    binary_bufs_sub .., unary_bufs_sub .., binary_bufs_sub .., nullary_bufs_sub .., unary_bufs_sub ..,
    binary_bufs_sub .., binary_bufs_sub .., nullary_bufs_sub .., unary_bufs_sub .., binary_bufs_sub ..,
    unary_bufs_sub .., nullary_bufs_sub .., binary_bufs_sub .., nullary_bufs_sub .., nullary_bufs_sub ..,
    nullary_bufs_sub .., quaternary_bufs_sub .., quaternary_bufs_sub ..⟩

set_option maxHeartbeats 2000000 in
/-- From any memory with zero counters every weakly fair execution of the reference ends with `nearest` and `least` of
    the two arguments in the results' buffers and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
        = nearest (m ((c.tc : Thread nD τ).loc main_arg0)) (m ((c.tc : Thread nD τ).loc main_arg1))
      ∧ r.2.mem ((c.tc : Thread nD τ).loc main_v17)
        = least (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (by unfold nearest distance sqDist; after_results; rfl),
      (h c main_v17).trans (by unfold least distance sqDist; after_results),
      (h c main_arg0).trans (by after_results),
      (h c main_arg1).trans (by after_results)⟩)
    (run_seq scopedRefs_eq scopedSems_eq defs main (fun _ => ops) main_eq (fun _ => ops_sub) m ρ)

end Cert.ReferenceIdeal.Value

end
-- ==== Proof.ReferenceValue.lean ====
/- The reference's results at the extended reals: per row the least of the clamped roots, and the first centroid at which it is. -/
module

public import proofs.«01_k».proof.Proof.Reference
public import proofs.«01_k».proof.Proof.SquaredDistance
public import proofs.«01_k».proof.Proof.FirstMin
public import proofs.«01_k».proof.Proof.Extended
public import Idealize.ShloMosaic.Lib.WordCmp

@[expose] public section

set_option maxRecDepth 16384

noncomputable section

namespace Cert.ReferenceIdeal.Value

open Cert.ReferenceIdeal Cert.ReferenceIdeal.Gen Idealize.ShloMosaic Cert.FirstMin Cert.Extended Cert.Spec

/-- An element of the array of squared distances. -/
theorem sqDist_apply (x : FVec Ideal S16384x64 .f32) (y : FVec Ideal S8192x64 .f32) (i : Fin 16384) (k : Fin 8192) :
    sqDist x y (ix2 i k) = sqd x y i k := by
  pointwise [sqDist, sqd]
  rw [ofBits_two]

/-- An element of the array of distances. -/
theorem distance_apply (x : FVec Ideal S16384x64 .f32) (y : FVec Ideal S8192x64 .f32) (i : Fin 16384) (k : Fin 8192) :
    distance x y (ix2 i k) = root (sqd x y i k) := by
  rw [← sqDist_apply]
  pointwise [distance, root]

/-- The least distance of a row. -/
theorem least_apply (x : FVec Ideal S16384x64 .f32) (y : FVec Ideal S8192x64 .f32) (i : Fin 16384) :
    least x y (ix1 i) = (Finset.univ : Finset (Fin 8192)).fold min ⊤ fun k => root (sqd x y i k) := by
  have h : ∀ k, root (sqd x y i k) = distance x y (ix2 i k) := fun k => (distance_apply x y i k).symm
  simp only [h]
  pointwise [least]
  rw [ofBits_top]

/-- The body of the arg-min: the lesser value, and the index that came with it, of equal values the lesser index. -/
theorem reducer_apply (a b : EReal) (u v : BitVec 32) :
    reducer_argmin_f32_i32 (F := Ideal) (a, u) (b, v)
      = (if a < b then a else b, if a < b ∨ (a = b ∧ u.toInt < v.toInt) then u else v) := by
  simp only [reducer_argmin_f32_i32, Ideal.cmpf_def, Ideal.cmp, IntOp.cmpi, WordCmp.ori_ofBool, WordCmp.andi_ofBool, WordCmp.select_ofBool,
    ne_eq, not_true_eq_false, decide_false, Bool.or_false, Bool.or_eq_true, Bool.and_eq_true, decide_eq_true_eq, BitVec.slt]

theorem picks_reducer : Picks (reducer_argmin_f32_i32 (F := Ideal)) fun p => toLex ((p.1 : EReal), p.2.toInt) := fun p q => by
  obtain ⟨a, u⟩ := p
  obtain ⟨b, v⟩ := q
  rw [reducer_apply]
  simp only [Prod.Lex.le_iff, ofLex_toLex]
  rcases lt_trichotomy (α := EReal) a b with h | h | h
  · exact Or.inl ⟨by rw [if_pos h, if_pos (Or.inl h)], Or.inl h⟩
  · subst h
    rcases lt_or_ge u.toInt v.toInt with hw | hw
    · exact Or.inl ⟨by rw [if_neg (lt_irrefl _), if_pos (Or.inr ⟨rfl, hw⟩)], Or.inr ⟨rfl, hw.le⟩⟩
    · refine Or.inr ⟨by rw [if_neg (lt_irrefl _), if_neg]; rintro (h | ⟨-, h⟩); exacts [lt_irrefl _ h, absurd h (not_lt.2 hw)],
        Or.inr ⟨rfl, hw⟩⟩
  · refine Or.inr ⟨by rw [if_neg (not_lt.2 h.le), if_neg]; rintro (h' | ⟨h', -⟩); exacts [lt_asymm h h', h.ne' h'], Or.inl h⟩

/-- The fiber of row `i` under the arg-min's reduction holds the row's distances, each with its own number. -/
theorem mem_fiber (f : FVec Ideal S16384x8192 .f32) (i : Fin 16384) (p : Ideal .f32 × BitVec 32) :
    p ∈ Host.argReduceFiber f (iotaInDim S16384x8192 32 1) reducesTo_S16384x8192_S16384_d1 (ix1 i)
      ↔ ∃ k : Fin 8192, p = (f (ix2 i k), BitVec.ofNat 32 k.1) := by
  simp only [Host.argReduceFiber, List.mem_map, List.mem_filter, List.mem_finRange, true_and, decide_eq_true_eq]
  constructor
  · rintro ⟨n, hn, rfl⟩
    generalize S16384x8192.rowMajor.symm n = j at hn
    have h0 : (j 0).1 = i.1 :=
      (Shape.ReducesTo.drop_apply_val_of_eq reducesTo_S16384x8192_S16384_d1 j 0 0).symm.trans (congrArg (fun v : S16384.Idx => (v 0).1) hn)
    have hj : j = ix2 i (j 1) := (eq_ix2 j).trans (congrArg (fun a : Fin 16384 => ix2 a (j 1)) (Fin.ext h0))
    exact ⟨j 1, Prod.ext (congrArg f hj) rfl⟩
  · rintro ⟨k, rfl⟩
    refine ⟨S16384x8192.rowMajor (ix2 i k), ?_, ?_⟩
    · rw [Equiv.symm_apply_apply]
      funext b
      fin_cases b
      exact Fin.ext (Shape.ReducesTo.drop_apply_val_of_eq reducesTo_S16384x8192_S16384_d1 (ix2 i k) 0 0)
    · rw [Equiv.symm_apply_apply]
      rfl

/-- An arg-reduction over the extended reals is the fold over its fiber, whatever the shapes. -/
theorem argReduce_eq_foldl {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel) (j : t.Idx) :
    (Host.argReduce f x y ix iy h hu j).2
      = ((Host.argReduceFiber x y h j).foldl f (ix (Shape.Idx.first hu), iy (Shape.Idx.first hu))).2 := by
  rw [Ideal.argReduce_eq_reduce2, Host.reduce2_eq_foldl_fiber]

/-- `nearest` as it is defined, under a binder. -/
theorem nearest_def (x : FVec Ideal S16384x64 .f32) (y : FVec Ideal S8192x64 .f32) : nearest x y = fun j =>
    (Host.argReduce (φ := .f32) reducer_argmin_f32_i32 (distance x y) (iotaInDim S16384x8192 32 1) (constant S_ .f32 0x7F800000#32)
      (constantI S_ 32 0#32) reducesTo_S16384x8192_S16384_d1 h_S_ j).2 := rfl

/-- The fold that the reference's index of a row is. -/
theorem nearest_eq (x : FVec Ideal S16384x64 .f32) (y : FVec Ideal S8192x64 .f32) (i : Fin 16384) :
    nearest x y (ix1 i) = ((Host.argReduceFiber (distance x y) (iotaInDim S16384x8192 32 1) reducesTo_S16384x8192_S16384_d1 (ix1 i)).foldl
      reducer_argmin_f32_i32 (constant S_ .f32 0x7F800000#32 (Shape.Idx.first h_S_), constantI S_ 32 0#32 (Shape.Idx.first h_S_))).2 :=
  (congrFun (nearest_def x y) (ix1 i)).trans (argReduce_eq_foldl _ _ _ _ _ _ _ _)

/-- The reference's index of a row is the first centroid at which the row's distance is least. -/
theorem nearest_apply (x : FVec Ideal S16384x64 .f32) (y : FVec Ideal S8192x64 .f32) (i : Fin 16384) :
    ∃ k : Fin 8192, IsFirstMin (fun k => root (sqd x y i k)) k ∧ nearest x y (ix1 i) = BitVec.ofNat 32 k.1 := by
  rw [nearest_eq, constant_apply, constantI_apply, Ideal.ofBits_def, ofBits_top]
  have hL := mem_fiber (distance x y) i
  generalize Host.argReduceFiber (distance x y) (iotaInDim S16384x8192 32 1) reducesTo_S16384x8192_S16384_d1 (ix1 i) = L at hL ⊢
  simp only [distance_apply] at hL
  exact of_foldl picks_reducer hL

end Cert.ReferenceIdeal.Value

end
-- ==== Proof.Decided.lean ====
/- Where the index is compared: in a row that `decided` selects, at most one centroid's squared distance does not exceed the clamp. -/
module

public import proofs.«01_k».proof.Proof.Gen.On_decided
public import proofs.«01_k».proof.Proof.SquaredDistance
public import proofs.«01_k».proof.Proof.Extended
public import Idealize.ShloMosaic.Lib.IdealHost

@[expose] public section

set_option maxRecDepth 16384

noncomputable section

namespace Cert.On_decided

open Cert.On_decided.Gen Idealize.ShloMosaic Cert.Extended Cert.Spec

/-- A proposition whose bit is 1 holds. -/
theorem of_bit {p : Prop} {_ : Decidable p} (h : BitVec.ofBool (decide p) = 1#1) : p := by
  by_contra hp
  rw [decide_eq_false hp] at h
  exact absurd h (by decide)

/-- The mask's first array at a row: the number of centroids within the clamp is at most 1. -/
theorem few (x : FVec Ideal S16384x64 .f32) (y : FVec Ideal S8192x64 .f32) (i : Fin 16384) (h : (fn (F := Ideal) x y).1 (ix1 i) = 1#1) :
    ∑ k : Fin 8192, (if sqd x y i k ≤ Ideal.ofBits .f32 0x2B8CBCCC#32 then (1 : EReal) else 0) ≤ 1 := by
  simp only [fn, fn_part1, fn_where, id_eq] at h
  pointwise at h
  rw [ofBits_two] at h
  exact of_bit h

/-- So no two different centroids are within the clamp of such a row. -/
theorem not_both_within (x : FVec Ideal S16384x64 .f32) (y : FVec Ideal S8192x64 .f32) (i : Fin 16384)
    (h : (fn (F := Ideal) x y).1 (ix1 i) = 1#1) {j k : Fin 8192} (hjk : j ≠ k) (hj : sqd x y i j ≤ Ideal.ofBits .f32 0x2B8CBCCC#32) :
    ¬ sqd x y i k ≤ Ideal.ofBits .f32 0x2B8CBCCC#32 :=
  not_both (fun k => sqd x y i k ≤ Ideal.ofBits .f32 0x2B8CBCCC#32) (few x y i h) hjk hj

end Cert.On_decided

end
-- ==== Proof.Equal.lean ====
/- The equation between the two programs, in the reference's own terms: where the squared distances of a row are first least,
   the clamped root is the reference's distance, and, in the rows that the mask selects, the index is the reference's index. -/
module

public import proofs.«01_k».proof.Proof.ReferenceValue
public import proofs.«01_k».proof.Proof.Decided

@[expose] public section

noncomputable section

namespace Cert.Equal

open Idealize.ShloMosaic Cert.ReferenceIdeal Cert.ReferenceIdeal.Value Cert.FirstMin Cert.Extended Cert.Spec

variable {x : FVec Ideal S16384x64 .f32} {y : FVec Ideal S8192x64 .f32} {i : Fin 16384} {k : Fin 8192}

/-- The root of the least squared distance is the least of the roots: the root is monotone. -/
theorem distance_eq (hk : IsFirstMin (sqd x y i) k) : root (sqd x y i k) = least x y (ix1 i) := by
  obtain ⟨k', hk', -⟩ := nearest_apply x y i
  rw [least_apply, hk'.fold_min]
  exact le_antisymm (root_monotone (hk.1 k')) (hk'.1 k)

/-- In a row that the mask selects, the roots are first least where the squared distances are: an earlier centroid is farther
    than the clamp, or else both would be within it. -/
theorem first_root (h : (Cert.On_decided.fn (F := Ideal) x y).1 (ix1 i) = 1#1) (hk : IsFirstMin (sqd x y i) k) :
    IsFirstMin (fun j => root (sqd x y i j)) k :=
  hk.comp root_monotone fun j hj => root_lt (hk.2 j hj) <| not_le.mp fun hc =>
    Cert.On_decided.not_both_within x y i h hj.ne hc ((hk.1 j).trans hc)

/-- So the index of the first least squared distance is the reference's index. -/
theorem index_eq (h : (Cert.On_decided.fn (F := Ideal) x y).1 (ix1 i) = 1#1) (hk : IsFirstMin (sqd x y i) k) :
    BitVec.ofNat 32 k.1 = nearest x y (ix1 i) := by
  obtain ⟨k', hk', e⟩ := nearest_apply x y i
  rw [e, (first_root h hk).unique hk']

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_decided
public import Idealize.ShloMosaic.Adequacy
public import Idealize.ShloMosaic.Init
public import Idealize.ShloMosaic.Lib.Quiescent
public import proofs.«01_k».proof.Proof.KernelRun
public import proofs.«01_k».proof.Proof.KernelValue
public import proofs.«01_k».proof.Proof.Equal

@[expose] public section

noncomputable section

namespace Cert.Proof

open Idealize.ShloMosaic Idealize.SL.Sem

/-- The reference runs, changes no argument, and has no semaphore whose counter could end above zero. -/
theorem quiescent_reference : quiescent_ReferenceIdeal (hReferenceIdeal := Cert.ReferenceIdeal.Gen.facts) := fun m ρ _ =>
  (θ_run _ _ _).mono (fun r h => ⟨fun c => ⟨(h c).2.2.1, (h c).2.2.2⟩, sem_eq_zero_of_no_sems (by decide) r.2⟩)
    (Cert.ReferenceIdeal.Value.run m ρ)

/-- The kernel's and the reference's results are both the nearest centroid's index, in the rows that the mask selects, and the
    least distance, in every row, of the same arguments. -/
theorem algebraic : algebraic_KernelIdeal_ReferenceIdeal_on_decided (hKernelIdeal := Cert.KernelIdeal.Gen.facts)
    (hReferenceIdeal := Cert.ReferenceIdeal.Gen.facts) (hOn_decided := Cert.On_decided.Gen.facts) := by
  intro m ρ m' ρ' _ hargs
  refine ⟨fun c => Cert.ReferenceIdeal.Value.nearest (F := Ideal) (m ((c.tc : Thread _ _).loc Cert.KernelIdeal.main_arg0)) (m ((c.tc : Thread _ _).loc Cert.KernelIdeal.main_arg1)),
    fun c => Cert.ReferenceIdeal.Value.least (F := Ideal) (m ((c.tc : Thread _ _).loc Cert.KernelIdeal.main_arg0)) (m ((c.tc : Thread _ _).loc Cert.KernelIdeal.main_arg1)), ?_, ?_⟩
  · refine (θ_run _ _ _).mono (fun r h c => ?_) (Cert.KernelIdeal.Gen.run m ρ)
    obtain ⟨hi, hd, h0, h1⟩ := h c
    refine ⟨fun i hon => ?_, fun i _ => ?_, h0, h1⟩
    · obtain ⟨k, hk, e⟩ := Cert.KernelIdeal.Gen.index_apply m ρ c (i 0)
      rw [eq_ix1 i] at hon ⊢
      exact (congrFun hi _).trans (e.trans (Cert.Equal.index_eq hon hk))
    · obtain ⟨k, hk, e⟩ := Cert.KernelIdeal.Gen.distance_apply m ρ c (i 0)
      rw [eq_ix1 i]
      exact (congrFun hd _).trans (e.trans (Cert.Equal.distance_eq hk))
  · refine (θ_run _ _ _).mono (fun r h c => ?_) (Cert.ReferenceIdeal.Value.run m' ρ')
    obtain ⟨hi, hd, h0, h1⟩ := h c
    rw [(hargs c).1, (hargs c).2] at hi hd
    exact ⟨fun i _ => congrFun hi i, fun i _ => congrFun hd i, h0, h1⟩

theorem claim : Cert.Claim := ⟨Cert.Kernel.Gen.facts, Cert.KernelIdeal.Gen.facts, Cert.ReferenceIdeal.Gen.facts, Cert.On_decided.Gen.facts,
  fun m ρ _ => Cert.Kernel.Gen.frame m ρ, fun m ρ _ => Cert.KernelIdeal.Gen.frame m ρ, quiescent_reference, trivial, algebraic⟩

end Cert.Proof

end
